-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x7168 : Shape := ⟨3, ![4, 2048, 7168]⟩
abbrev S4x2048x1 : Shape := ⟨3, ![4, 2048, 1]⟩
abbrev S7168x2560 : Shape := ⟨2, ![7168, 2560]⟩
abbrev S2560 : Shape := ⟨1, ![2560]⟩
abbrev S8192x7168 : Shape := ⟨2, ![8192, 7168]⟩
abbrev S8192x1 : Shape := ⟨2, ![8192, 1]⟩
abbrev S1x2560 : Shape := ⟨2, ![1, 2560]⟩
abbrev S8192x2560 : Shape := ⟨2, ![8192, 2560]⟩
abbrev S1024x7168 : Shape := ⟨2, ![1024, 7168]⟩
abbrev S1024x1 : Shape := ⟨2, ![1024, 1]⟩
abbrev S7168x512 : Shape := ⟨2, ![7168, 512]⟩
abbrev S1x512 : Shape := ⟨2, ![1, 512]⟩
abbrev S1024x512 : Shape := ⟨2, ![1024, 512]⟩
abbrev S4x2048x2560 : Shape := ⟨3, ![4, 2048, 2560]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x7168, .fp8e4m3⟩
  | .hbm, ⟨1, _⟩ => ⟨S4x2048x1, .f32⟩
  | .hbm, ⟨2, _⟩ => ⟨S7168x2560, .fp8e4m3⟩
  | .hbm, ⟨3, _⟩ => ⟨S2560, .f32⟩
  | .hbm, ⟨4, _⟩ => ⟨S2560, .bf16⟩
  | .hbm, ⟨5, _⟩ => ⟨S8192x7168, .fp8e4m3⟩
  | .hbm, ⟨6, _⟩ => ⟨S8192x1, .f32⟩
  | .hbm, ⟨7, _⟩ => ⟨S1x2560, .f32⟩
  | .hbm, ⟨8, _⟩ => ⟨S1x2560, .bf16⟩
  | .hbm, ⟨9, _⟩ => ⟨S8192x2560, .bf16⟩
  | .hbm, ⟨10, _⟩ => ⟨S4x2048x2560, .bf16⟩
  | .local _ .vmem, ⟨0, _⟩ => ⟨S1024x7168, .fp8e4m3⟩
  | .local _ .vmem, ⟨1, _⟩ => ⟨S1024x7168, .fp8e4m3⟩
  | .local _ .vmem, ⟨2, _⟩ => ⟨S1024x1, .f32⟩
  | .local _ .vmem, ⟨3, _⟩ => ⟨S1024x1, .f32⟩
  | .local _ .vmem, ⟨4, _⟩ => ⟨S7168x512, .fp8e4m3⟩
  | .local _ .vmem, ⟨5, _⟩ => ⟨S7168x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .bf16⟩
  | .local _ .vmem, ⟨9, _⟩ => ⟨S1x512, .bf16⟩
  | .local _ .vmem, ⟨10, _⟩ => ⟨S1024x512, .bf16⟩
  | .local _ .vmem, ⟨11, _⟩ => ⟨S1024x512, .bf16⟩
  | _, _ => ⟨S4x2048x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x7168 : Shape := ⟨3, ![4, 2048, 7168]⟩
abbrev S4x2048x1 : Shape := ⟨3, ![4, 2048, 1]⟩
abbrev S7168x2560 : Shape := ⟨2, ![7168, 2560]⟩
abbrev S2560 : Shape := ⟨1, ![2560]⟩
abbrev S4x2048x2560 : Shape := ⟨3, ![4, 2048, 2560]⟩
abbrev S1x1x2560 : Shape := ⟨3, ![1, 1, 2560]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x7168, .fp8e4m3⟩
  | .hbm, ⟨1, _⟩ => ⟨S4x2048x1, .f32⟩
  | .hbm, ⟨2, _⟩ => ⟨S7168x2560, .fp8e4m3⟩
  | .hbm, ⟨3, _⟩ => ⟨S2560, .f32⟩
  | .hbm, ⟨4, _⟩ => ⟨S2560, .bf16⟩
  | .hbm, ⟨5, _⟩ => ⟨S4x2048x2560, .bf16⟩
  | .local _ .vmem, ⟨0, _⟩ => ⟨S4x2048x7168, .fp8e4m3⟩
  | .local _ .vmem, ⟨1, _⟩ => ⟨S4x2048x1, .f32⟩
  | .local _ .vmem, ⟨2, _⟩ => ⟨S7168x2560, .fp8e4m3⟩
  | .local _ .vmem, ⟨3, _⟩ => ⟨S2560, .f32⟩
  | .local _ .vmem, ⟨4, _⟩ => ⟨S2560, .bf16⟩
  | .local _ .vmem, ⟨5, _⟩ => ⟨S4x2048x2560, .bf16⟩
  | _, _ => ⟨S4x2048x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x2048x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/-
  Hand-written, untrusted. THE FUNCTION that both programs compute, over the extended reals: an fp8 linear layer with one
  scale per token, one scale per output channel and a bias. No program is mentioned here.
-/
module

public import Idealize.ShloMosaic.Lib.Pointwise

@[expose] public section

noncomputable section

namespace Cert.Spec

open Idealize.ShloMosaic
open scoped BigOperators

/-- Token `(b, s)`'s output channel `n`: the inner product of the token's codes with the channel's, times the token's scale,
    times the channel's scale, plus the channel's bias. -/
def linear (x : FVec Ideal ⟨3, ![4, 2048, 7168]⟩ .fp8e4m3) (xs : FVec Ideal ⟨3, ![4, 2048, 1]⟩ .f32)
    (w : FVec Ideal ⟨2, ![7168, 2560]⟩ .fp8e4m3) (ws : FVec Ideal ⟨1, ![2560]⟩ .f32) (bias : FVec Ideal ⟨1, ![2560]⟩ .bf16)
    (b : Fin 4) (s : Fin 2048) (n : Fin 2560) : EReal :=
  (∑ k : Fin 7168, x (ix3 b s k) * w (ix2 k n)) * xs (ix3 b s 0) * ws (ix1 n) + bias (ix1 n)

/-- The same with the token axes flattened to one, and the channel scales and the bias as rows: what one launch sees. -/
def flat {M K N : ℕ} (x : FVec Ideal ⟨2, ![M, K]⟩ .fp8e4m3) (xs : FVec Ideal ⟨2, ![M, 1]⟩ .f32)
    (w : FVec Ideal ⟨2, ![K, N]⟩ .fp8e4m3) (ws : FVec Ideal ⟨2, ![1, N]⟩ .f32) (bias : FVec Ideal ⟨2, ![1, N]⟩ .bf16)
    (r : Fin M) (n : Fin N) : EReal :=
  (∑ k : Fin K, x (ix2 r k) * w (ix2 k n)) * xs (ix2 r 0) * ws (ix2 0 n) + bias (ix2 0 n)

/-- The flat layer of arrays that read as the unflattened ones do at token `(b, s)`'s row is the layer at that token. -/
theorem flat_eq_linear {M : ℕ} {X : FVec Ideal ⟨2, ![M, 7168]⟩ .fp8e4m3} {XS : FVec Ideal ⟨2, ![M, 1]⟩ .f32}
    {WS : FVec Ideal ⟨2, ![1, 2560]⟩ .f32} {B : FVec Ideal ⟨2, ![1, 2560]⟩ .bf16}
    {x : FVec Ideal ⟨3, ![4, 2048, 7168]⟩ .fp8e4m3} {xs : FVec Ideal ⟨3, ![4, 2048, 1]⟩ .f32}
    {w : FVec Ideal ⟨2, ![7168, 2560]⟩ .fp8e4m3} {ws : FVec Ideal ⟨1, ![2560]⟩ .f32} {bias : FVec Ideal ⟨1, ![2560]⟩ .bf16}
    {r : Fin M} {b : Fin 4} {s : Fin 2048} {n : Fin 2560} (hx : ∀ k, X (ix2 r k) = x (ix3 b s k))
    (hxs : XS (ix2 r 0) = xs (ix3 b s 0)) (hws : WS (ix2 0 n) = ws (ix1 n)) (hb : B (ix2 0 n) = bias (ix1 n)) :
    flat X XS w WS B r n = linear x xs w ws bias b s n := by
  unfold flat linear
  rw [hxs, hws, hb]
  simp only [hx]

end Cert.Spec

end
-- ==== Proof.RefValue.lean ====
/-
  Hand-written, untrusted. WHAT THE REFERENCE COMPUTES: its one stored value, read at an index, is `Spec.linear` there.
-/
module

public import proofs.«01_k».proof.Proof.Gen.ReferenceIdeal
public import proofs.«01_k».proof.Proof.Gen.ReferenceIdeal.Skeleton
public import proofs.«01_k».proof.Proof.Spec

@[expose] public section

noncomputable section

namespace Cert.Proof.RefValue

open Idealize.ShloMosaic Cert.ReferenceIdeal Cert.ReferenceIdeal.Gen
open scoped BigOperators

/-- The reference's stored value at `(b, s, n)` is the linear layer's output channel `n` of token `(b, s)`. -/
theorem pay_apply (x : FVec Ideal S4x2048x7168 .fp8e4m3) (w : FVec Ideal S7168x2560 .fp8e4m3) (xs : FVec Ideal S4x2048x1 .f32)
    (ws : FVec Ideal S2560 .f32) (bias : FVec Ideal S2560 .bf16) (b : Fin 4) (s : Fin 2048) (n : Fin 2560) :
    Gen.k0_pay1 (F := Ideal) x w xs ws bias (ix3 b s n) = Spec.linear x xs w ws bias b s n := by
  unfold Gen.k0_pay1 Spec.linear
  pointwise
  done

end Cert.Proof.RefValue

end
-- ==== Proof.BlockValue.lean ====
/-
  Hand-written, untrusted. WHAT ONE GRID POINT COMPUTES: the value the kernel's body stores, read at an index of the output
  block, is `Spec.flat` of the point's five input blocks.
-/
module

public import proofs.«01_k».proof.Proof.Gen.KernelIdeal
public import proofs.«01_k».proof.Proof.Gen.KernelIdeal.Skeleton
public import proofs.«01_k».proof.Proof.Spec

@[expose] public section

noncomputable section

namespace Cert.Proof.BlockValue

open Idealize.ShloMosaic Cert.KernelIdeal Cert.KernelIdeal.Gen
open scoped BigOperators

/-- The body's stored value at row `r`, column `n` of the block is the flat linear layer of the input blocks. -/
theorem pay_apply (x : FVec Ideal S1024x7168 .fp8e4m3) (w : FVec Ideal S7168x512 .fp8e4m3) (xs : FVec Ideal S1024x1 .f32)
    (ws : FVec Ideal S1x512 .f32) (bias : FVec Ideal S1x512 .bf16) (r : Fin 1024) (n : Fin 512) :
    Gen.k0_pay1 (F := Ideal) x w xs ws bias (ix2 r n) = Spec.flat x xs w ws bias r n := by
  unfold Gen.k0_pay1 Spec.flat
  pointwise
  done

end Cert.Proof.BlockValue

end
-- ==== Proof.ArrayValue.lean ====
/-
  Hand-written, untrusted. WHAT THE WHOLE LAUNCH LEAVES in its output array: the flat linear layer of the five arrays it
  reads. Each grid point writes back its block of that function, and the forty blocks tile the array.
-/
module

public import proofs.«01_k».proof.Proof.Gen.KernelIdeal.Frame
public import proofs.«01_k».proof.Proof.BlockValue
public import Idealize.ShloMosaic.Lib.Pipeline.Value

@[expose] public section

noncomputable section

namespace Cert.Proof.ArrayValue

open Idealize.ShloMosaic Idealize.ShloMosaic.TcCoe Idealize.SL.Sem Cert.KernelIdeal Cert.KernelIdeal.Gen
open Idealize.ShloMosaic.Pipeline (Dat)
open scoped BigOperators

variable (m : (ℓ : Loc nD τ sig) → Buf (Elt Ideal) ℓ)

/-- The output array: at row `i 0` and column `i 1`, the flat linear layer of the arrays as the launch finds them. -/
def G (c : Dev nD) : FVec Ideal S8192x2560 .bf16 := fun i =>
  Spec.flat (M := 8192) (K := 7168) (N := 2560) (V m c main_v0) (V m c main_v1) (V m c main_arg2) (V m c main_v2) (V m c main_v3)
    (i 0) (i 1)

theorem hz : (![0, 0] : Fin 2 → Nat) = fun _ => 0 := funext fun a => by fin_cases a <;> rfl

/-- Loads of whole blocks read the blocks, and the one store over the whole output block leaves its value. -/
theorem out_eq {F : FTy → Type} [FloatOps F] (x0 : Vec F S1024x7168 .fp8e4m3) (x1 : Vec F S1024x1 .f32) (x2 : Vec F S7168x512 .fp8e4m3)
    (x3 : Vec F S1x512 .f32) (x4 : Vec F S1x512 .bf16) :
    out0_5 (F := F) x0 x1 x2 x3 x4 = k0_pay1 x0 x2 x1 x3 x4 := by
  unfold out0_5
  rw [View.canon_unit_zero hz, View.ld_unit_zero (S := S1024x7168) hz _ x0, View.ld_unit_zero (S := S7168x512) hz _ x2,
    View.ld_unit_zero (S := S1024x1) hz _ x1, View.ld_unit_zero (S := S1x512) hz _ x3, View.ld_unit_zero (S := S1x512) hz _ x4]

/-- How the input windows move with the output window, at each of the forty points: the codes' and token scales' row block is
    the output's, the weights', channel scales' and bias's column block is the output's, and the other axes are whole. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) < 8 ∧ win0_5.index t (1 : Fin 2) < 5 :=
  (by decide +kernel : ∀ t : Fin grid0.N, _)

/-- Every pair of a row block and a column block is some point's. -/
theorem idx_onto : ∀ (p : Fin 8) (q : Fin 5), ∃ t : Fin cfg0.N, win0_5.index t (0 : Fin 2) = p.val ∧ win0_5.index t (1 : Fin 2) = q.val :=
  (by decide +kernel : ∀ (p : Fin 8) (q : Fin 5), ∃ t : Fin grid0.N, _)

/-- Row `r` of point `t`'s output block, as a row of the array. -/
def row (t : Fin cfg0.N) (r : Fin 1024) : Fin 8192 :=
  ⟨win0_5.index t (0 : Fin 2) * 1024 + r.val, by have := (idx_facts t).2.2.2.2.2.2.2.2.2.2.1; omega⟩

/-- Column `n` of point `t`'s output block, as a column of the array. -/
def col (t : Fin cfg0.N) (n : Fin 512) : Fin 2560 :=
  ⟨win0_5.index t (1 : Fin 2) * 512 + n.val, by have := (idx_facts t).2.2.2.2.2.2.2.2.2.2.2; omega⟩

/-- Two rank-2 indices with equal coordinates are equal. -/
theorem idx2_ext {M N : ℕ} {i j : (⟨2, ![M, N]⟩ : Shape).Idx} (h0 : (i 0).val = (j 0).val) (h1 : (i 1).val = (j 1).val) : i = j := by
  funext a; apply Fin.ext
  match a with
  | ⟨0, _⟩ => exact h0
  | ⟨1, _⟩ => exact h1

/-- The code block at a point: the array's rows of the output's row block, all columns. -/
theorem iblk0_apply (c : Dev nD) (t : Fin cfg0.N) (r : Fin 1024) (k : Fin 7168) :
    (iblk m c 0 t : FVec Ideal S1024x7168 .fp8e4m3) (ix2 r k) = (V m c main_v0 : FVec Ideal S8192x7168 .fp8e4m3) (ix2 (row t r) k) := by
  obtain ⟨e0, e1, -⟩ := idx_facts t
  show V m c main_v0 (((cfg0.win 0).blk t).view.emb (ix2 r k)) = _
  refine congrArg (V m c main_v0) (idx2_ext ?_ ?_)
  · show win0_0.index t (0 : Fin 2) * 1024 + 1 * r.val = win0_5.index t (0 : Fin 2) * 1024 + r.val; omega
  · show win0_0.index t (1 : Fin 2) * 7168 + 1 * k.val = k.val; omega

/-- The token-scale block at a point. -/
theorem iblk1_apply (c : Dev nD) (t : Fin cfg0.N) (r : Fin 1024) :
    (iblk m c 1 t : FVec Ideal S1024x1 .f32) (ix2 r 0) = (V m c main_v1 : FVec Ideal S8192x1 .f32) (ix2 (row t r) 0) := by
  obtain ⟨-, -, e0, e1, -⟩ := idx_facts t
  show V m c main_v1 (((cfg0.win 1).blk t).view.emb (ix2 r 0)) = _
  refine congrArg (V m c main_v1) (idx2_ext ?_ ?_)
  · show win0_1.index t (0 : Fin 2) * 1024 + 1 * r.val = win0_5.index t (0 : Fin 2) * 1024 + r.val; omega
  · show win0_1.index t (1 : Fin 2) * 1 + 1 * 0 = 0; omega

/-- The weight block at a point: all rows, the array's columns of the output's column block. -/
theorem iblk2_apply (c : Dev nD) (t : Fin cfg0.N) (k : Fin 7168) (n : Fin 512) :
    (iblk m c 2 t : FVec Ideal S7168x512 .fp8e4m3) (ix2 k n) = (V m c main_arg2 : FVec Ideal S7168x2560 .fp8e4m3) (ix2 k (col t n)) := by
  obtain ⟨-, -, -, -, e0, e1, -⟩ := idx_facts t
  show V m c main_arg2 (((cfg0.win 2).blk t).view.emb (ix2 k n)) = _
  refine congrArg (V m c main_arg2) (idx2_ext ?_ ?_)
  · show win0_2.index t (0 : Fin 2) * 7168 + 1 * k.val = k.val; omega
  · show win0_2.index t (1 : Fin 2) * 512 + 1 * n.val = win0_5.index t (1 : Fin 2) * 512 + n.val; omega

/-- The channel-scale block at a point. -/
theorem iblk3_apply (c : Dev nD) (t : Fin cfg0.N) (n : Fin 512) :
    (iblk m c 3 t : FVec Ideal S1x512 .f32) (ix2 0 n) = (V m c main_v2 : FVec Ideal S1x2560 .f32) (ix2 0 (col t n)) := by
  obtain ⟨-, -, -, -, -, -, e0, e1, -⟩ := idx_facts t
  show V m c main_v2 (((cfg0.win 3).blk t).view.emb (ix2 0 n)) = _
  refine congrArg (V m c main_v2) (idx2_ext ?_ ?_)
  · show win0_3.index t (0 : Fin 2) * 1 + 1 * 0 = 0; omega
  · show win0_3.index t (1 : Fin 2) * 512 + 1 * n.val = win0_5.index t (1 : Fin 2) * 512 + n.val; omega

/-- The bias block at a point. -/
theorem iblk4_apply (c : Dev nD) (t : Fin cfg0.N) (n : Fin 512) :
    (iblk m c 4 t : FVec Ideal S1x512 .bf16) (ix2 0 n) = (V m c main_v3 : FVec Ideal S1x2560 .bf16) (ix2 0 (col t n)) := by
  obtain ⟨-, -, -, -, -, -, -, -, e0, e1, -⟩ := idx_facts t
  show V m c main_v3 (((cfg0.win 4).blk t).view.emb (ix2 0 n)) = _
  refine congrArg (V m c main_v3) (idx2_ext ?_ ?_)
  · show win0_4.index t (0 : Fin 2) * 1 + 1 * 0 = 0; omega
  · show win0_4.index t (1 : Fin 2) * 512 + 1 * n.val = win0_5.index t (1 : Fin 2) * 512 + n.val; omega

/-- The body's value at a point is that point's block of `G`. -/
theorem block_eq (c : Dev nD) (t : Fin cfg0.N) (r : Fin 1024) (n : Fin 512) :
    k0_pay1 (F := Ideal) (iblk m c 0 t) (iblk m c 2 t) (iblk m c 1 t) (iblk m c 3 t) (iblk m c 4 t) (ix2 r n)
      = G m c (ix2 (row t r) (col t n)) := by
  refine (BlockValue.pay_apply _ _ _ _ _ r n).trans ?_
  show Spec.flat _ _ _ _ _ r n = Spec.flat _ _ _ _ _ (row t r) (col t n)
  unfold Spec.flat
  rw [iblk1_apply, iblk3_apply, iblk4_apply]
  simp only [iblk0_apply, iblk2_apply]

/-- What point `t` writes back is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5, out_eq]
  funext j
  change S1024x512.Idx at j
  show k0_pay1 (F := Ideal) (iblk m c 0 t) (iblk m c 2 t) (iblk m c 1 t) (iblk m c 3 t) (iblk m c 4 t) j
    = G m c (((cfg0.win 5).blk t).view.emb j)
  have hj : j = ix2 (j 0) (j 1) := idx2_ext rfl rfl
  have he : ((cfg0.win 5).blk t).view.emb j = ix2 (row t (j 0)) (col t (j 1)) := idx2_ext
    (by show win0_5.index t (0 : Fin 2) * 1024 + 1 * (j 0).val = win0_5.index t (0 : Fin 2) * 1024 + (j 0).val; omega)
    (by show win0_5.index t (1 : Fin 2) * 512 + 1 * (j 1).val = win0_5.index t (1 : Fin 2) * 512 + (j 1).val; omega)
  exact ((congrArg _ hj).trans (block_eq m c t (j 0) (j 1))).trans (congrArg (G m c) he.symm)

/-- Every index of the array is in some point's block. -/
theorem covered (i : S8192x2560.Idx) :
    ∃ t : Fin cfg0.N, (cfg0.win 5).flush t = true ∧ i ∈ ((cfg0.win 5).blk t).view.set := by
  have h0 : (i 0).val < 8192 := (i 0).isLt
  have h1 : (i 1).val < 2560 := (i 1).isLt
  obtain ⟨t, e0, e1⟩ := idx_onto ⟨(i 0).val / 1024, by omega⟩ ⟨(i 1).val / 512, by omega⟩
  have e0 : win0_5.index t (0 : Fin 2) = (i 0).val / 1024 := e0
  have e1 : win0_5.index t (1 : Fin 2) = (i 1).val / 512 := e1
  refine ⟨t, flush0_5 t, ?_⟩
  have h := ((cfg0.win 5).blk t).view.emb_mem_set
    (ix2 ⟨(i 0).val % 1024, by omega⟩ ⟨(i 1).val % 512, by omega⟩ : S1024x512.Idx)
  have he : ((cfg0.win 5).blk t).view.emb (ix2 ⟨(i 0).val % 1024, by omega⟩ ⟨(i 1).val % 512, by omega⟩ : S1024x512.Idx) = i := idx2_ext
    (by show win0_5.index t (0 : Fin 2) * 1024 + 1 * ((i 0).val % 1024) = (i 0).val; omega)
    (by show win0_5.index t (1 : Fin 2) * 512 + 1 * ((i 1).val % 512) = (i 1).val; omega)
  rwa [he] at h

/-- The output array after the launch is `G`. -/
theorem final (c : Dev nD) : (dats m 0 c).arrAt 5 cfg0.N = G m c :=
  (dats m 0 c).arrAt_eq_of_cover 5 (G m c) (fun t _ => flushed_eq m c t) covered

end Cert.Proof.ArrayValue

end
-- ==== Proof.KerValue.lean ====
/-
  Hand-written, untrusted. THE KERNEL'S RUN WITH ITS VALUE: its result array holds the linear layer of its five arguments,
  through the reshapes before and after the launch, and the arguments end unchanged.
-/
module

public import proofs.«01_k».proof.Proof.ArrayValue
public import Idealize.ShloMosaic.Lib.Claim
public import Idealize.ShloMosaic.Lib.Pipeline.FrameSuffix

@[expose] public section

noncomputable section

namespace Cert.Proof.KerValue

open Idealize.ShloMosaic Idealize.ShloMosaic.TcCoe Idealize.SL.Sem Cert.KernelIdeal Cert.KernelIdeal.Gen
open scoped BigOperators

/-- Token `(b, s)` as a row of the flattened arrays. -/
def flatRow (b : Fin 4) (s : Fin 2048) : Fin 8192 := ⟨2048 * b.val + s.val, by omega⟩

/-- The flattened codes at `(b, s)`'s row are `(b, s)`'s codes. -/
theorem codes_apply (x : FVec Ideal S4x2048x7168 .fp8e4m3) (b : Fin 4) (s : Fin 2048) (k : Fin 7168) :
    shapeCast S8192x7168 x shapeCasts_S4x2048x7168_S8192x7168 (ix2 (flatRow b s) k) = x (ix3 b s k) := by
  refine shapeCast_apply x _ _ _ ?_
  simp only [Shape.rowMajor_val_two, Shape.rowMajor_val_three]
  show (b.val * 2048 + s.val) * 7168 + k.val = (2048 * b.val + s.val) * 7168 + k.val
  omega

/-- The flattened token scales at `(b, s)`'s row are `(b, s)`'s scale. -/
theorem scales_apply (x : FVec Ideal S4x2048x1 .f32) (b : Fin 4) (s : Fin 2048) :
    shapeCast S8192x1 x shapeCasts_S4x2048x1_S8192x1 (ix2 (flatRow b s) 0) = x (ix3 b s 0) := by
  refine shapeCast_apply x _ _ _ ?_
  simp only [Shape.rowMajor_val_two, Shape.rowMajor_val_three]
  show (b.val * 2048 + s.val) * 1 + 0 = (2048 * b.val + s.val) * 1 + 0
  omega

/-- A row made of a vector reads the vector. -/
theorem vec_apply {φ : FTy} (x : FVec Ideal S2560 φ) (n : Fin 2560) :
    shapeCast S1x2560 x shapeCasts_S2560_S1x2560 (ix2 0 n) = x (ix1 n) := by
  refine shapeCast_apply x _ _ _ ?_
  simp only [Shape.rowMajor_val_two, Shape.rowMajor_val_one]
  show n.val = 0 * 2560 + n.val
  omega

/-- The result with its token axes apart, at `(b, s, n)`, is the flat result at `(b, s)`'s row and column `n`. -/
theorem result_apply (y : FVec Ideal S8192x2560 .bf16) (b : Fin 4) (s : Fin 2048) (n : Fin 2560) :
    shapeCast S4x2048x2560 y shapeCasts_S8192x2560_S4x2048x2560 (ix3 b s n) = y (ix2 (flatRow b s) n) := by
  refine shapeCast_apply y _ _ _ ?_
  simp only [Shape.rowMajor_val_two, Shape.rowMajor_val_three]
  show (2048 * b.val + s.val) * 2560 + n.val = (b.val * 2048 + s.val) * 2560 + n.val
  omega

variable (m : (ℓ : Loc nD τ sig) → Buf (Elt Ideal) ℓ) (ρ : Dev nD → PrngReg)

/-- The launch finds the codes flattened. -/
theorem V_main_v0 (c : Dev nD) : V m c main_v0
    = shapeCast S8192x7168 (m ((c : Thread nD τ).loc main_arg0)) shapeCasts_S4x2048x7168_S8192x7168 := by
  entry_read; rfl

/-- The launch finds the token scales flattened. -/
theorem V_main_v1 (c : Dev nD) : V m c main_v1
    = shapeCast S8192x1 (m ((c : Thread nD τ).loc main_arg1)) shapeCasts_S4x2048x1_S8192x1 := by
  entry_read; rfl

/-- The launch finds the channel scales as a row. -/
theorem V_main_v2 (c : Dev nD) : V m c main_v2
    = shapeCast S1x2560 (m ((c : Thread nD τ).loc main_arg3)) shapeCasts_S2560_S1x2560 := by
  entry_read; rfl

/-- The launch finds the bias as a row. -/
theorem V_main_v3 (c : Dev nD) : V m c main_v3
    = shapeCast S1x2560 (m ((c : Thread nD τ).loc main_arg4)) shapeCasts_S2560_S1x2560 := by
  entry_read; rfl

/-- The launch's output at `(b, s)`'s row and column `n` is the linear layer of the arguments there. -/
theorem G_apply (c : Dev nD) (b : Fin 4) (s : Fin 2048) (n : Fin 2560) :
    ArrayValue.G m c (ix2 (flatRow b s) n)
      = Spec.linear (m ((c : Thread nD τ).loc main_arg0)) (m ((c : Thread nD τ).loc main_arg1)) (m ((c : Thread nD τ).loc main_arg2))
          (m ((c : Thread nD τ).loc main_arg3)) (m ((c : Thread nD τ).loc main_arg4)) b s n := by
  show Spec.flat (M := 8192) (K := 7168) (N := 2560) (V m c main_v0) (V m c main_v1) (V m c main_arg2) (V m c main_v2) (V m c main_v3)
    (flatRow b s) n = _
  rw [V_main_v0, V_main_v1, V_main_arg2, V_main_v2, V_main_v3]
  exact Spec.flat_eq_linear (codes_apply _ b s) (scales_apply _ b s) (vec_apply _ n) (vec_apply _ n)

/-- The linear layer of the arguments, as the result array. -/
def result (c : Dev nD) : FVec Ideal S4x2048x2560 .bf16 := fun i =>
  Spec.linear (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- What the reshape after the launch leaves in the result array. -/
theorem tail_eq (c : Dev nD) :
    Pipeline.afterTail₀ cfgs (dats m) 0 (V0 m) [hostOps1] c main_v5
      = shapeCast S4x2048x2560 (ArrayValue.G m c) shapeCasts_S8192x2560_S4x2048x2560 := by
  have h : Pipeline.withArrays (cfgs 0).spec c (V0 m c) (fun w => (dats m 0 c).arrAt w (cfgs 0).N)
      (Proc.devRef .tc main_v4) = ArrayValue.G m c :=
    (Pipeline.withArrays_arr spec0 (by decide : Function.Injective (Pipeline.arrRef spec0)) c (V0 m c) _ 5).trans
      (ArrayValue.final m c)
  rw [← h]
  rfl

/-- The result array after the run is the linear layer of the arguments. -/
theorem value_eq (c : Dev nD) :
    Pipeline.afterTail₀ cfgs (dats m) 0 (V0 m) [hostOps1] c main_v5 = result m c := by
  refine (tail_eq m c).trans (funext fun i => ?_)
  change S4x2048x2560.Idx at i
  have hi : i = ix3 (i 0) (i 1) (i 2) := funext fun a => by fin_cases a <;> rfl
  rw [hi]
  exact (result_apply _ _ _ _).trans (G_apply m c _ _ _)

/-- The kernel runs, its result is the linear layer of its arguments, and the arguments end unchanged. -/
theorem run : θ_run defs (onTc (τ := τ) (main (F := Ideal))) ⟨m, fun _ => 0, ρ⟩ (fun r => ∀ c : Dev nD,
    r.2.mem ((c.tc : Thread nD τ).loc main_v5) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ⟨?_, ?_, ?_, ?_, ?_, ?_⟩) (run_main m ρ)
  · exact ((h c).2 main_v5 (Pipeline.mem_restRefs_of main_v5 (by decide) (by decide))).trans (value_eq m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).1 2).trans (((dats m 0 c).arrAt_in 2 rfl _).trans ((A_eq m c 2).trans (V_main_arg2 m c)))
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)

end Cert.Proof.KerValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.RefValue
public import proofs.«01_k».proof.Proof.KerValue
public import Idealize.ShloMosaic.Adequacy
public import Idealize.ShloMosaic.Init

@[expose] public section

noncomputable section

namespace Cert.Proof

open Idealize.ShloMosaic Idealize.SL.Sem Cert.Kernel

/-- The reference's stored value at any arguments is the linear layer of them, index by index. -/
theorem reference_value (x : FVec Ideal ReferenceIdeal.S4x2048x7168 .fp8e4m3) (xs : FVec Ideal ReferenceIdeal.S4x2048x1 .f32)
    (w : FVec Ideal ReferenceIdeal.S7168x2560 .fp8e4m3) (ws : FVec Ideal ReferenceIdeal.S2560 .f32)
    (bias : FVec Ideal ReferenceIdeal.S2560 .bf16) :
    ReferenceIdeal.Gen.k0_pay1 (F := Ideal) x w xs ws bias
      = fun i => Spec.linear x xs w ws bias (i 0) (i 1) (i 2) := by
  funext i
  change ReferenceIdeal.S4x2048x2560.Idx at i
  have hi : i = ix3 (i 0) (i 1) (i 2) := funext fun a => by fin_cases a <;> rfl
  exact (congrArg _ hi).trans (RefValue.pay_apply x w xs ws bias (i 0) (i 1) (i 2))

/-- From memories that agree on the arguments, the kernel and the reference both run, leave the same result — the linear
    layer of the arguments — and leave the arguments unchanged. -/
theorem algebraic : algebraic_KernelIdeal_ReferenceIdeal (hKernelIdeal := Cert.KernelIdeal.Gen.facts)
    (hReferenceIdeal := Cert.ReferenceIdeal.Gen.facts) := by
  intro m g m' g' _ hag
  refine ⟨KerValue.result m, KerValue.run m g, ?_⟩
  refine (θ_run _ _ _).mono (fun r h c => ?_) (ReferenceIdeal.Value.run (F := Ideal) m' g')
  obtain ⟨hv, hargs⟩ := h c
  obtain ⟨h0, h1, h2, h3, h4⟩ := hag c
  refine ⟨hv.trans ((reference_value _ _ _ _ _).trans ?_), hargs⟩
  rw [h0, h1, h2, h3, h4]
  rfl

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
